-- ==== Defs.lean ====
def Pre_Kernel [hPre_names_a_row : Cert.Pre_names_a_row.Facts] (m : (ℓ : Loc Cert.Kernel.nD Cert.Kernel.τ Cert.Kernel.sig) → Buf (Elt Bits) ℓ) : Prop :=
  ∀ c : Dev Cert.Kernel.nD,
    (Cert.Pre_names_a_row.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_names_a_row : Cert.Pre_names_a_row.Facts] (m : (ℓ : Loc Cert.KernelIdeal.nD Cert.KernelIdeal.τ Cert.KernelIdeal.sig) → Buf (Elt Ideal) ℓ) : Prop :=
  ∀ c : Dev Cert.KernelIdeal.nD,
    (Cert.Pre_names_a_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_BlockKernel [hPre_names_a_row : Cert.Pre_names_a_row.Facts] (m : (ℓ : Loc Cert.BlockKernel.nD Cert.BlockKernel.τ Cert.BlockKernel.sig) → Buf (Elt Bits) ℓ) : Prop :=
  ∀ c : Dev Cert.BlockKernel.nD,
    (Cert.Pre_names_a_row.fn (F := Bits) (m ((c.tc : Thread Cert.BlockKernel.nD Cert.BlockKernel.τ).loc Cert.BlockKernel.main_arg0)) (m ((c.tc : Thread Cert.BlockKernel.nD Cert.BlockKernel.τ).loc Cert.BlockKernel.main_arg1))) = (fun _ => 1#1)

def Pre_BlockKernelIdeal [hPre_names_a_row : Cert.Pre_names_a_row.Facts] (m : (ℓ : Loc Cert.BlockKernelIdeal.nD Cert.BlockKernelIdeal.τ Cert.BlockKernelIdeal.sig) → Buf (Elt Ideal) ℓ) : Prop :=
  ∀ c : Dev Cert.BlockKernelIdeal.nD,
    (Cert.Pre_names_a_row.fn (F := Ideal) (m ((c.tc : Thread Cert.BlockKernelIdeal.nD Cert.BlockKernelIdeal.τ).loc Cert.BlockKernelIdeal.main_arg0)) (m ((c.tc : Thread Cert.BlockKernelIdeal.nD Cert.BlockKernelIdeal.τ).loc Cert.BlockKernelIdeal.main_arg1))) = (fun _ => 1#1)

def Pre_Reference (m : (ℓ : Loc Cert.Reference.nD Cert.Reference.τ Cert.Reference.sig) → Buf (Elt Bits) ℓ) : Prop :=
  True

def Pre_Reference_names_a_row [hPre_names_a_row : Cert.Pre_names_a_row.Facts] (m : (ℓ : Loc Cert.Reference.nD Cert.Reference.τ Cert.Reference.sig) → Buf (Elt Bits) ℓ) : Prop :=
  ∀ c : Dev Cert.Reference.nD,
    (Cert.Pre_names_a_row.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_names_a_row [hPre_names_a_row : Cert.Pre_names_a_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_names_a_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_names_a_row : Cert.Pre_names_a_row.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_names_a_row : Cert.Pre_names_a_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_BlockKernel [hBlockKernel : Cert.BlockKernel.Facts] [hPre_names_a_row : Cert.Pre_names_a_row.Facts] : Prop :=
  ∀ (m : (ℓ : Loc Cert.BlockKernel.nD Cert.BlockKernel.τ Cert.BlockKernel.sig) → Buf (Elt Bits) ℓ) (g : Dev Cert.BlockKernel.nD → PrngReg), Pre_BlockKernel m →
    θ_run (Cert.BlockKernel.defs (F := Bits)) (onTc (τ := Cert.BlockKernel.τ) (Cert.BlockKernel.main (F := Bits))) ⟨m, fun _ => 0, g⟩ (fun r => (∀ c : Dev Cert.BlockKernel.nD,
      r.2.mem ((c.tc : Thread Cert.BlockKernel.nD Cert.BlockKernel.τ).loc Cert.BlockKernel.main_arg0) = m ((c.tc : Thread Cert.BlockKernel.nD Cert.BlockKernel.τ).loc Cert.BlockKernel.main_arg0)
      ∧ r.2.mem ((c.tc : Thread Cert.BlockKernel.nD Cert.BlockKernel.τ).loc Cert.BlockKernel.main_arg1) = m ((c.tc : Thread Cert.BlockKernel.nD Cert.BlockKernel.τ).loc Cert.BlockKernel.main_arg1))
      ∧ r.2.sem = fun _ => 0)

def quiescent_BlockKernelIdeal [hBlockKernelIdeal : Cert.BlockKernelIdeal.Facts] [hPre_names_a_row : Cert.Pre_names_a_row.Facts] : Prop :=
  ∀ (m : (ℓ : Loc Cert.BlockKernelIdeal.nD Cert.BlockKernelIdeal.τ Cert.BlockKernelIdeal.sig) → Buf (Elt Ideal) ℓ) (g : Dev Cert.BlockKernelIdeal.nD → PrngReg), Pre_BlockKernelIdeal m →
    θ_run (Cert.BlockKernelIdeal.defs (F := Ideal)) (onTc (τ := Cert.BlockKernelIdeal.τ) (Cert.BlockKernelIdeal.main (F := Ideal))) ⟨m, fun _ => 0, g⟩ (fun r => (∀ c : Dev Cert.BlockKernelIdeal.nD,
      r.2.mem ((c.tc : Thread Cert.BlockKernelIdeal.nD Cert.BlockKernelIdeal.τ).loc Cert.BlockKernelIdeal.main_arg0) = m ((c.tc : Thread Cert.BlockKernelIdeal.nD Cert.BlockKernelIdeal.τ).loc Cert.BlockKernelIdeal.main_arg0)
      ∧ r.2.mem ((c.tc : Thread Cert.BlockKernelIdeal.nD Cert.BlockKernelIdeal.τ).loc Cert.BlockKernelIdeal.main_arg1) = m ((c.tc : Thread Cert.BlockKernelIdeal.nD Cert.BlockKernelIdeal.τ).loc Cert.BlockKernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_names_a_row [hReference : Cert.Reference.Facts] [hPre_names_a_row : Cert.Pre_names_a_row.Facts] : Prop :=
  ∀ (m : (ℓ : Loc Cert.Reference.nD Cert.Reference.τ Cert.Reference.sig) → Buf (Elt Bits) ℓ) (g : Dev Cert.Reference.nD → PrngReg), Pre_Reference_names_a_row m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_names_a_row [hReferenceIdeal : Cert.ReferenceIdeal.Facts] [hPre_names_a_row : Cert.Pre_names_a_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_names_a_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def preserves_BlockKernel_BlockKernelIdeal : Prop :=
  True

def algebraic_KernelIdeal_ReferenceIdeal [hKernelIdeal : Cert.KernelIdeal.Facts] [hReferenceIdeal : Cert.ReferenceIdeal.Facts] [hPre_names_a_row : Cert.Pre_names_a_row.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_BlockKernelIdeal_ReferenceIdeal [hBlockKernelIdeal : Cert.BlockKernelIdeal.Facts] [hReferenceIdeal : Cert.ReferenceIdeal.Facts] [hPre_names_a_row : Cert.Pre_names_a_row.Facts] : Prop :=
  ∀ (m : (ℓ : Loc Cert.BlockKernelIdeal.nD Cert.BlockKernelIdeal.τ Cert.BlockKernelIdeal.sig) → Buf (Elt Ideal) ℓ) (g : Dev Cert.BlockKernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_BlockKernelIdeal m →
    (∀ c : Dev Cert.BlockKernelIdeal.nD,
      m' ((c.tc : Thread Cert.ReferenceIdeal.nD Cert.ReferenceIdeal.τ).loc Cert.ReferenceIdeal.main_arg0) = m ((c.tc : Thread Cert.BlockKernelIdeal.nD Cert.BlockKernelIdeal.τ).loc Cert.BlockKernelIdeal.main_arg0)
      ∧ m' ((c.tc : Thread Cert.ReferenceIdeal.nD Cert.ReferenceIdeal.τ).loc Cert.ReferenceIdeal.main_arg1) = m ((c.tc : Thread Cert.BlockKernelIdeal.nD Cert.BlockKernelIdeal.τ).loc Cert.BlockKernelIdeal.main_arg1)) →
    ∃ (v0 : (c : Dev Cert.BlockKernelIdeal.nD) → Buf (Elt Ideal) ((c.tc : Thread Cert.BlockKernelIdeal.nD Cert.BlockKernelIdeal.τ).loc Cert.BlockKernelIdeal.main_v1)),
      θ_run (Cert.BlockKernelIdeal.defs (F := Ideal)) (onTc (τ := Cert.BlockKernelIdeal.τ) (Cert.BlockKernelIdeal.main (F := Ideal))) ⟨m, fun _ => 0, g⟩ (fun r => ∀ c : Dev Cert.BlockKernelIdeal.nD,
          r.2.mem ((c.tc : Thread Cert.BlockKernelIdeal.nD Cert.BlockKernelIdeal.τ).loc Cert.BlockKernelIdeal.main_v1) = v0 c
          ∧ r.2.mem ((c.tc : Thread Cert.BlockKernelIdeal.nD Cert.BlockKernelIdeal.τ).loc Cert.BlockKernelIdeal.main_arg0) = m ((c.tc : Thread Cert.BlockKernelIdeal.nD Cert.BlockKernelIdeal.τ).loc Cert.BlockKernelIdeal.main_arg0)
          ∧ r.2.mem ((c.tc : Thread Cert.BlockKernelIdeal.nD Cert.BlockKernelIdeal.τ).loc Cert.BlockKernelIdeal.main_arg1) = m ((c.tc : Thread Cert.BlockKernelIdeal.nD Cert.BlockKernelIdeal.τ).loc Cert.BlockKernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_names_a_row : Cert.Pre_names_a_row.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def bitexact_BlockKernel_Reference [hBlockKernel : Cert.BlockKernel.Facts] [hReference : Cert.Reference.Facts] [hPre_names_a_row : Cert.Pre_names_a_row.Facts] : Prop :=
  ∀ (m : (ℓ : Loc Cert.BlockKernel.nD Cert.BlockKernel.τ Cert.BlockKernel.sig) → Buf (Elt Bits) ℓ) (g : Dev Cert.BlockKernel.nD → PrngReg)
    (m' : (ℓ : Loc Cert.Reference.nD Cert.Reference.τ Cert.Reference.sig) → Buf (Elt Bits) ℓ) (g' : Dev Cert.Reference.nD → PrngReg), Pre_BlockKernel m →
    (∀ c : Dev Cert.BlockKernel.nD,
      m' ((c.tc : Thread Cert.Reference.nD Cert.Reference.τ).loc Cert.Reference.main_arg0) = m ((c.tc : Thread Cert.BlockKernel.nD Cert.BlockKernel.τ).loc Cert.BlockKernel.main_arg0)
      ∧ m' ((c.tc : Thread Cert.Reference.nD Cert.Reference.τ).loc Cert.Reference.main_arg1) = m ((c.tc : Thread Cert.BlockKernel.nD Cert.BlockKernel.τ).loc Cert.BlockKernel.main_arg1)) →
    ∃ (v0 : (c : Dev Cert.BlockKernel.nD) → Buf (Elt Bits) ((c.tc : Thread Cert.BlockKernel.nD Cert.BlockKernel.τ).loc Cert.BlockKernel.main_v1)),
      θ_run (Cert.BlockKernel.defs (F := Bits)) (onTc (τ := Cert.BlockKernel.τ) (Cert.BlockKernel.main (F := Bits))) ⟨m, fun _ => 0, g⟩ (fun r => ∀ c : Dev Cert.BlockKernel.nD,
          r.2.mem ((c.tc : Thread Cert.BlockKernel.nD Cert.BlockKernel.τ).loc Cert.BlockKernel.main_v1) = v0 c
          ∧ r.2.mem ((c.tc : Thread Cert.BlockKernel.nD Cert.BlockKernel.τ).loc Cert.BlockKernel.main_arg0) = m ((c.tc : Thread Cert.BlockKernel.nD Cert.BlockKernel.τ).loc Cert.BlockKernel.main_arg0)
          ∧ r.2.mem ((c.tc : Thread Cert.BlockKernel.nD Cert.BlockKernel.τ).loc Cert.BlockKernel.main_arg1) = m ((c.tc : Thread Cert.BlockKernel.nD Cert.BlockKernel.τ).loc Cert.BlockKernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hBlockKernel : Cert.BlockKernel.Facts) (hBlockKernelIdeal : Cert.BlockKernelIdeal.Facts) (hReference : Cert.Reference.Facts) (hReferenceIdeal : Cert.ReferenceIdeal.Facts) (hPre_names_a_row : Cert.Pre_names_a_row.Facts),
    quiescent_Kernel (hKernel := hKernel) (hPre_names_a_row := hPre_names_a_row)
    ∧ quiescent_KernelIdeal (hKernelIdeal := hKernelIdeal) (hPre_names_a_row := hPre_names_a_row)
    ∧ quiescent_BlockKernel (hBlockKernel := hBlockKernel) (hPre_names_a_row := hPre_names_a_row)
    ∧ quiescent_BlockKernelIdeal (hBlockKernelIdeal := hBlockKernelIdeal) (hPre_names_a_row := hPre_names_a_row)
    ∧ quiescent_Reference (hReference := hReference)
    ∧ quiescent_Reference_pre_names_a_row (hReference := hReference) (hPre_names_a_row := hPre_names_a_row)
    ∧ quiescent_ReferenceIdeal (hReferenceIdeal := hReferenceIdeal)
    ∧ quiescent_ReferenceIdeal_pre_names_a_row (hReferenceIdeal := hReferenceIdeal) (hPre_names_a_row := hPre_names_a_row)
    ∧ preserves_Kernel_KernelIdeal
    ∧ preserves_BlockKernel_BlockKernelIdeal
    ∧ algebraic_KernelIdeal_ReferenceIdeal (hKernelIdeal := hKernelIdeal) (hReferenceIdeal := hReferenceIdeal) (hPre_names_a_row := hPre_names_a_row)
    ∧ algebraic_BlockKernelIdeal_ReferenceIdeal (hBlockKernelIdeal := hBlockKernelIdeal) (hReferenceIdeal := hReferenceIdeal) (hPre_names_a_row := hPre_names_a_row)
    ∧ bitexact_Kernel_Reference (hKernel := hKernel) (hReference := hReference) (hPre_names_a_row := hPre_names_a_row)
    ∧ bitexact_BlockKernel_Reference (hBlockKernel := hBlockKernel) (hReference := hReference) (hPre_names_a_row := hPre_names_a_row)
-- ==== Pre_names_a_row.lean ====
abbrev S100000x128 : Shape := ⟨2, ![100000, 128]⟩
abbrev S1x1 : Shape := ⟨2, ![1, 1]⟩
abbrev S_ : Shape := ⟨0, ![]⟩

class Facts : Prop where
  bcast_S_S1x1 : S_.BroadcastsInDim S1x1 (![] : Fin 0 → Fin S1x1.rank)

variable [Facts]

def fn {F : FTy → Type} [FloatOps F] (main_arg0 : FVec F S100000x128 .f32) (main_arg1 : IVec S1x1 32) : IVec S1x1 1 :=
  let main_c : IVec S_ 32 := constantI S_ 32 0#32
  let main_v0 : IVec S1x1 32 := broadcastInDim S1x1 ![] bcast_S_S1x1 main_c
  let main_v1 : IVec S1x1 1 := cmpi .sge main_arg1 main_v0
  let main_c_0 : IVec S_ 32 := constantI S_ 32 100000#32
  let main_v2 : IVec S1x1 32 := broadcastInDim S1x1 ![] bcast_S_S1x1 main_c_0
  let main_v3 : IVec S1x1 1 := cmpi .slt main_arg1 main_v2
  let main_v4 : IVec S1x1 1 := andi main_v1 main_v3
  main_v4
-- ==== Kernel.lean ====
abbrev S100000x128 : Shape := ⟨2, ![100000, 128]⟩
abbrev S1x1 : Shape := ⟨2, ![1, 1]⟩
abbrev S1x128 : Shape := ⟨2, ![1, 128]⟩
abbrev S_ : Shape := ⟨0, ![]⟩

abbrev nBuf : Table → Nat
  | .hbm => 3
  | .local .scScalar .smem => 1
  | _ => 0

abbrev bufTy : (tb : Table) → Fin (nBuf tb) → BufTy
  | .hbm, ⟨0, _⟩ => ⟨S100000x128, .f32⟩
  | .hbm, ⟨1, _⟩ => ⟨S1x1, .i32⟩
  | .hbm, ⟨2, _⟩ => ⟨S1x128, .f32⟩
  | .local .scScalar .smem, ⟨0, _⟩ => ⟨S1x1, .i32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scs : Ref sig .scScalar := ⟨.hbm, 0, rfl⟩
abbrev main_arg1_scs : Ref sig .scScalar := ⟨.hbm, 1, rfl⟩
abbrev main_v0_scs : Ref sig .scScalar := ⟨.hbm, 2, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v2 : BitVec 32) : Fin 2 → Nat :=
  let c0_i32_1_r1 : BitVec 32 := 0#32
  ![v2.toNat, 0]

def k0_chk1 (v2 : BitVec 32) : Prop :=
  (∀ a, (k0_off1 v2) a + S1x128.size a ≤ S100000x128.size a)
theorem k0_off1_inb : ∀ (v2 : BitVec 32) (k0_hw1 : k0_chk1 v2), ∀ a, (k0_off1 v2) a + S1x128.size a ≤ S100000x128.size a := fun v2 k0_hw1 => k0_hw1

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== BlockKernel.lean ====
abbrev S100000x128 : Shape := ⟨2, ![100000, 128]⟩
abbrev S1x1 : Shape := ⟨2, ![1, 1]⟩
abbrev S1 : Shape := ⟨1, ![1]⟩
abbrev S1x128 : Shape := ⟨2, ![1, 128]⟩
abbrev S8x128 : Shape := ⟨2, ![8, 128]⟩

abbrev nBuf : Space → Nat
  | .hbm => 3
  | .vmem => 2
  | .smem => 1
  | _ => 0

abbrev bufTy : (tb : Table) → Fin (tcTables nBuf tb) → BufTy
  | .hbm, ⟨0, _⟩ => ⟨S100000x128, .f32⟩
  | .hbm, ⟨1, _⟩ => ⟨S1x1, .i32⟩
  | .hbm, ⟨2, _⟩ => ⟨S1x128, .f32⟩
  | .local _ .vmem, ⟨0, _⟩ => ⟨S8x128, .f32⟩
  | .local _ .vmem, ⟨1, _⟩ => ⟨S1x128, .f32⟩
  | .local _ .smem, ⟨0, _⟩ => ⟨S1, .i32⟩
  | _, _ => ⟨S100000x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 2 → Nat :=
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v11 : Index := Scalar.indexCast v10
  let c0_3 : Index := 0#32
  ![v11.toNat, 0]

def k0_chk1 (v0 : BitVec 32) : Prop :=
  (∀ a, (k0_off1 v0) a + S1x128.size a ≤ S8x128.size a)
theorem k0_off1_inb : ∀ (v0 : BitVec 32) (k0_hw1 : k0_chk1 v0), ∀ a, (k0_off1 v0) a + S1x128.size a ≤ S8x128.size a := fun v0 k0_hw1 => k0_hw1

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference.lean ====
abbrev S100000x128 : Shape := ⟨2, ![100000, 128]⟩
abbrev S1x1 : Shape := ⟨2, ![1, 1]⟩
abbrev S_ : Shape := ⟨0, ![]⟩
abbrev S1x128 : Shape := ⟨2, ![1, 128]⟩

abbrev nBuf : Space → Nat
  | .hbm => 10
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1x1, .i32⟩
  | .hbm, ⟨2, _⟩ => ⟨S_, .i32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Proof.Row.lean ====
/- The mathematics of the problem: a table of 100000 rows of 128 words, a 1 by 1 array holding a row number, and the 1 by 128 array
   that is the numbered row. Nothing here mentions a program. The words are of any type: no arithmetic is done on them. -/
module

public import Idealize.ShloMosaic.Shape

@[expose] public section

namespace Cert.Proof.Row

open Idealize.ShloMosaic

/-- The table's shape, 100000 rows of 128. -/
abbrev TableShape : Shape := ⟨2, ![100000, 128]⟩
/-- One row's shape. -/
abbrev RowShape : Shape := ⟨2, ![1, 128]⟩
/-- The shape of the array that holds the row number: one word. -/
abbrev NumberShape : Shape := ⟨2, ![1, 1]⟩

/-- The place of the table in row `k`, column `j`. -/
def place (k : Fin 100000) (j : Fin 128) : TableShape.Idx := fun a => match a with | 0 => k | 1 => j

/-- The only place of the row number's array. -/
def only : NumberShape.Idx := fun a => match a with | 0 => (0 : Fin 1) | 1 => (0 : Fin 1)

/-- Row `k` of the table `x`, as a 1 by 128 array. -/
def row {α : Type} (x : TableShape.Idx → α) (k : Fin 100000) : RowShape.Idx → α := fun p => x (place k (p 1))

/-- Every place of the row number's array is the only one. -/
theorem eq_only (y : NumberShape.Idx) : y = only := by
  funext a
  match a with
  | 0 => exact Subsingleton.elim (α := Fin 1) _ _
  | 1 => exact Subsingleton.elim (α := Fin 1) _ _

/-- A place of the table is known by its two numbers. -/
theorem place_eq (i : TableShape.Idx) (k : Fin 100000) (j : Fin 128) (h0 : (i 0).val = k.val) (h1 : (i 1).val = j.val) :
    i = place k j := by
  funext a
  match a with
  | 0 => exact Fin.ext h0
  | 1 => exact Fin.ext h1

/-- An array read from the table at places `f p`, each in row `k` and in the column of `p`, is row `k`. -/
theorem row_of_places {α : Type} (x : TableShape.Idx → α) (k : Fin 100000) (f : RowShape.Idx → TableShape.Idx)
    (h0 : ∀ p, (f p 0).val = k.val) (h1 : ∀ p, (f p 1).val = (p 1).val) : (fun p => x (f p)) = row x k :=
  funext fun p => congrArg x (place_eq (f p) k (p 1) (h0 p) (h1 p))

/-- Equal tables and equal row number arrays name equal rows. -/
theorem row_congr {α : Type} {x y : TableShape.Idx → α} {i j : NumberShape.Idx → BitVec 32} (hx : x = y) (hi : i = j)
    (p : (i only).toNat < 100000) (q : (j only).toNat < 100000) : row x ⟨_, p⟩ = row y ⟨_, q⟩ := by
  subst hx hi; rfl

/-- The first coordinate of a place in a 1 by 128 array is zero. -/
theorem row_zero (p : RowShape.Idx) : (p 0).val = 0 := Nat.lt_one_iff.mp (p 0).isLt

end Cert.Proof.Row

end
-- ==== Proof.Word.lean ====
/- What the precondition says of the row number: read as an unsigned word it is below 100000. -/
module

public import proofs.«01_k».proof.Defs
public import proofs.«01_k».proof.Proof.Row
public import proofs.«01_k».proof.Proof.Gen.Pre_names_a_row

@[expose] public section

namespace Cert.Proof.Word

open Idealize.ShloMosaic Cert.Proof.Row

/-- A word that is, as a signed number, at least zero and below 100000 is below 100000 as an unsigned number. -/
theorem lt_of_signed (w : BitVec 32) (h : IntOp.andi (IntOp.cmpi .sge w 0#32) (IntOp.cmpi .slt w 100000#32) = 1#1) :
    w.toNat < 100000 := by
  have both : ∀ p q : Bool, IntOp.andi (BitVec.ofBool p) (BitVec.ofBool q) = 1#1 → p = true ∧ q = true := by decide
  obtain ⟨hge, hlt⟩ := both _ _ h
  simp only [BitVec.sle, BitVec.slt, decide_eq_true_eq, BitVec.toInt, BitVec.toNat_ofNat] at hge hlt
  omega

/-- The precondition bounds the row number. -/
theorem lt_of_pre {F : FTy → Type} [FloatOps F] (x : FVec F Cert.Pre_names_a_row.S100000x128 .f32) (i : IVec Cert.Pre_names_a_row.S1x1 32)
    (h : Cert.Pre_names_a_row.fn x i = fun _ => 1#1) : (i only).toNat < 100000 :=
  lt_of_signed _ (congrFun h only)

end Cert.Proof.Word

end
-- ==== Proof.Launch.lean ====
/- The SparseCore call of `kernel` as the launch theorem sees it, for any float values: the program's tables, what the call hands the
   scalar subcore and takes back, and the names of the arrays. The call is handed the table, the row number's array and the result's
   array; it hands back the first two as they were and the result holding the numbered row. -/
module

public import proofs.«01_k».proof.Defs
public import proofs.«01_k».proof.Proof.Row
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Row

variable {F : FTy → Type}

/-! ## The program's tables -/

/-- The labels of the program: the kernel's, and no pipeline's. -/
abbrev Labels' : Labels := Pipeline.Sig Λ₀ (Fin 0) fun p => (pcfgs (F := F) p).Adm
/-- The program's one SparseCore call. -/
abbrev K : SparseCore.Cfg τ sig (Labels' (F := F)) 1 := sc (F := F)
/-- The bodies the labels name. -/
abbrev D [FloatOps F] : Defs nD τ sig (Elt F) (Labels' (F := F)) := Pipeline.defs pcfgs defs₀
/-- No loop of the kernel needs a measure. -/
abbrev 𝒱₀ : Variants := Variants.none
abbrev 𝒱 : Variants := 𝒱₀.lift
abbrev v₀ : 𝒱.V := Sum.inl none

/-- The semaphores of the call's handshake are distinct and outlive the call, and no buffer is shared by its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the handshake's rounds beside the transfers' counters -/

abbrev Hand : Type := URounds (GSem nD τ sig) ℕ
abbrev Ghost : Type := Hand × Counters

/-- The handshake's part of the ghost state. -/
abbrev EH : Emb Hand (MT nD τ sig (HIx 1) (Elt F) ℕ Ghost ℕ) := embL

local notation "𝕄" => MT nD τ sig (HIx 1) (Elt F) ℕ Ghost ℕ

/-! ## The arrays -/

variable (m : (ℓ : Loc nD τ sig) → Buf (Elt F) ℓ)

/-- The table, the row number's array and the result's array on device `d`. -/
abbrev tLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

/-- What the run asks of the launch memory: the row number is the number of a row. -/
def Named : Prop := ∀ d : Dev nD, (m (iLoc d) only).toNat < 100000

variable {m} in
/-- The row the array at launch names. -/
abbrev number (hm : Named m) (d : Dev nD) : Fin 100000 := ⟨(m (iLoc d) only).toNat, hm d⟩

/-- What the result's array holds at the end: the numbered row of the table. -/
def answer (hm : Named m) (d : Dev nD) : Buf (Elt F) (oLoc d) := row (m (tLoc d)) (number hm d)

abbrev tPts (d : Dev nD) : sProp 𝕄 := tLoc d ↦{fullShare} m (tLoc d)
abbrev iPts (d : Dev nD) : sProp 𝕄 := iLoc d ↦{fullShare} m (iLoc d)
abbrev oPts (d : Dev nD) (f : Buf (Elt F) (oLoc d)) : sProp 𝕄 := oLoc d ↦{fullShare} f

/-- What the call hands over and takes back. -/
def P (hm : Named m) : (K (F := F)).Pay (nD := nD) (Val := Elt F) (Name := ℕ) (U := Ghost) where
  st := fun _ d _ => iprop(tPts m d ∗ iPts m d ∗ oPts d (m (oLoc d)))
  dn := fun _ d _ => iprop(tPts m d ∗ iPts m d ∗ oPts d (answer m hm d))
  go := fun _ _ _ _ => iprop(emp)
  td := fun _ _ _ _ => iprop(emp)
  x := fun _ _ => iprop(emp)

/-- What changes hands is storable in an invariant. -/
instance P_storable (hm : Named m) : (P m hm).IsStorable where
  st _ d c := by unfold P; infer_instance
  dn _ d c := by unfold P; infer_instance
  go _ _ _ _ := by unfold P; infer_instance
  td _ _ _ _ := by unfold P; infer_instance

end Cert.Proof.Gather

end
-- ==== Proof.Body.lean ====
/- The kernel's body on the scalar subcore of the SparseCore, for any float values: the copy of the row number into scalar memory and
   its wait, the load of the number, the check that the row it names lies in the table, the copy of that row to the result and its
   wait. Afterwards the result's array holds the numbered row and everything else is as it was. -/
module

public import proofs.«01_k».proof.Proof.Launch

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Row

variable {F : FTy → Type}

local notation "𝕄" => MT nD τ sig (HIx 1) (Elt F) ℕ Ghost ℕ

/-- The kernel's operands as the body is handed them: the table, the row number's array, the result's array, the scalar scratch. -/
abbrev tW : Memref sig .scScalar .hbm S100000x128 .f32 := Memref.whole main_arg0_scs
abbrev iW : Memref sig .scScalar .hbm S1x1 .i32 := Memref.whole main_arg1_scs
abbrev oW : Memref sig .scScalar .hbm S1x128 .f32 := Memref.whole main_v0_scs
abbrev sW : Memref sig .scScalar .smem S1x1 .i32 := Memref.whole cc0_scratch0

variable (m : (ℓ : Loc nD τ sig) → Buf (Elt F) ℓ) (d : Dev nD)

/-- The coordinates the body runs at on SparseCore `c`. -/
def coordsS (c : Fin (grid0.bound 0)) : grid0.Coords := fun | 0 => c | ⟨_ + 1, h⟩ => absurd h (Nat.not_lt.2 (Nat.le_add_left _ _))

/-- SparseCore 0, and its scalar subcore. -/
abbrev core0 (h : 0 < grid0.bound 0) : Fin τ.nSC := (⟨0, h⟩ : Fin (grid0.bound 0)).castLE hcore0
/-- The thread the body runs on. -/
abbrev S0 (h : 0 < grid0.bound 0) : Thread nD τ := S d (core0 h)

/-- The cells of the two transfers. -/
abbrev cellA (c : Fin τ.nSC) : GSem nD τ sig := (S d c, .dma cc0_scoped0.sem)
abbrev cellB (c : Fin τ.nSC) : GSem nD τ sig := (S d c, .dma cc0_scoped1.sem)

/-- The subcore's own cells at zero: the two the body names, and the rest. -/
theorem ownSems0_S (c : Fin τ.nSC) :
    (ownSems0 (S d c) : sProp 𝕄)
      = iprop(semVal (cellA d c) 0 ∗ semVal (cellB d c) 0
          ∗ bigSep (((ownCells (S d c)).erase (cellA d c)).erase (cellB d c)) fun g => semVal g 0) := by
  unfold SparseCore.Cfg.ownSems0
  rw [SparseCore.bigSep_erase' ((mem_ownCells (g := cellA d c)).mpr ⟨rfl, by
      show (SemLoc.dma cc0_scoped0.sem : SemLoc sig).isScoped .scScalar = true; decide⟩),
    SparseCore.bigSep_erase' (Finset.mem_erase.mpr ⟨by simp [cellA, cellB]; decide, (mem_ownCells (g := cellB d c)).mpr ⟨rfl, by
      show (SemLoc.dma cc0_scoped1.sem : SemLoc sig).isScoped .scScalar = true; decide⟩⟩)]

/-- The subcore's own buffers: the scalar scratch at some contents, and the rest. -/
theorem ownBufs_S (c : Fin τ.nSC) :
    (ownBufs (S d c) : sProp 𝕄)
      = iprop((∃ f, (S d c).loc cc0_scratch0 ↦{fullShare} f)
          ∗ bigSep ((ownRefs (τ := τ) (.scScalar c)).erase ((Proc.scScalar c).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scScalar c)
    (b := (Proc.scScalar c).devRef cc0_scratch0) rfl)

/-- The table the body is handed is the TensorCore's first argument. -/
theorem pts_t (c : Fin τ.nSC) (f : Buf (Elt F) (tLoc d)) : (tW.view.loc (S d c) ↦{fullShare} f : sProp 𝕄) = tLoc d ↦{fullShare} f := rfl
/-- The row number's array the body is handed is the TensorCore's second argument. -/
theorem pts_i (c : Fin τ.nSC) (f : Buf (Elt F) (iLoc d)) : (iW.view.loc (S d c) ↦{fullShare} f : sProp 𝕄) = iLoc d ↦{fullShare} f := rfl
/-- The result's array the body is handed is the TensorCore's result. -/
theorem pts_o (c : Fin τ.nSC) (f : Buf (Elt F) (oLoc d)) : (oW.view.loc (S d c) ↦{fullShare} f : sProp 𝕄) = oLoc d ↦{fullShare} f := rfl
/-- The scalar scratch the body is handed is the subcore's own. -/
theorem pts_s (c : Fin τ.nSC) (f : Buf (Elt F) ((S d c).loc cc0_scratch0)) :
    (sW.view.loc (S d c) ↦{fullShare} f : sProp 𝕄) = (S d c).loc cc0_scratch0 ↦{fullShare} f := rfl

/-- A word below 100000 passes the body's check. -/
theorem chk_of_lt (w : BitVec 32) (h : w.toNat < 100000) : k0_chk1 w := by
  intro a
  match a with
  | 0 => show w.toNat + 1 ≤ 100000; omega
  | 1 => show 0 + 128 ≤ 128; omega

/-- What the second copy reads from the table, at a word that is the row number: the numbered row. -/
theorem read_row (hm : Named m) (w : BitVec 32) (hw : k0_chk1 w) (he : w = m (iLoc d) only) :
    (tW.slice (Rect.unit (s := S100000x128) (k0_off1 w) S1x128.size (k0_off1_inb w hw)) (fun _ => rfl)).view.read (Elt F) (m (tLoc d))
      = answer m hm d := by
  subst he
  refine row_of_places (m (tLoc d)) (number hm d) _ (fun p => ?_) (fun p => ?_)
  · show (m (iLoc d) only).toNat + 1 * (p 0).val = (m (iLoc d) only).toNat
    rw [row_zero p]; rfl
  · show 0 + 1 * (p 1).val = (p 1).val
    omega

variable [FloatOps F]

set_option maxHeartbeats 4000000 in
/-- The body, started with the three arrays, the subcore's own buffers and its own cells at zero, ends with the result's array at the
    numbered row, the other two arrays unchanged, every own buffer held and every own cell back at zero. -/
theorem body (hm : Named m) (h : 0 < grid0.bound 0) (O : CellTallies nD τ sig (HIx 1)) (W : Waits sig (HIx 1)) (hO : ∀ g, O g none = 0) :
    iprop(levAts (K (F := F)).L (K (F := F)).lev ∗ emp ∗ (tPts m d ∗ iPts m d ∗ oPts d (m (oLoc d)))
        ∗ scopedBufs (S0 d h) ∗ scopedSems0 (S0 d h) ∗ owes (S0 d h) O W)
      ⊢ wp frame (wpE (defs₀ (F := F)) 𝒱₀ (S0 d h) none) Set.univ
          (cc0_k (coordsS ⟨0, h⟩) tW (Memref.isWhole_whole _) iW (Memref.isWhole_whole _) oW (Memref.isWhole_whole _)
            sW (Memref.isWhole_whole _) cc0_scoped0 cc0_scoped1)
          fun _ => iprop((tPts m d ∗ iPts m d ∗ oPts d (answer m hm d))
            ∗ scopedBufs (S0 d h) ∗ scopedSems0 (S0 d h)
            ∗ ∃ W', ⌜∀ p ∈ W', p ∈ W ∨ p.2 = none ∨ p.2 = some (0 : Fin 1)⌝ ∗ owes (S0 d h) O W') := by
  simp only [cc0_k_eq_skeleton]; unfold cc0_k_skel
  rw [(K (F := F)).scopedBufs_S facts d _, SparseCore.Cfg.scopedSems0_S (Val := Elt F) d _, ownSems0_S, ownBufs_S]
  iintro ⟨#Hlv, -, ⟨Ht, Hi, Ho⟩, ⟨⟨⟨%fs, Hs⟩, Hbufs⟩, Htiles⟩, ⟨⟨HA, HB, Hsems⟩, HtileSems⟩, HO⟩
  ihave Hmw := ((K (F := F)).mayWaits_none (thr := S0 d h) hO) $$ Hlv
  ihave Ht' := (Entails.of_eq (pts_t (F := F) d (core0 h) _).symm) $$ Ht
  ihave Hi' := (Entails.of_eq (pts_i (F := F) d (core0 h) _).symm) $$ Hi
  ihave Ho' := (Entails.of_eq (pts_o (F := F) d (core0 h) _).symm) $$ Ho
  ihave Hs' := (Entails.of_eq (pts_s (F := F) d (core0 h) _).symm) $$ Hs
  sl_exec
  -- the word loaded is the row number: the copy wrote the scratch whole
  have hr : body.sl.r m d h fs = m (iLoc d) only := by
    unfold body.sl.r
    simp only [View.readAt_apply, Memref.view_whole, View.read_whole, View.write_whole_univ]
    exact congrArg (m (iLoc d)) (eq_only _)
  have hk : k0_chk1 (body.sl.r m d h fs) := chk_of_lt _ (hr ▸ hm d)
  sl_exec (disch := sl_exact hk)
  -- the second copy wrote the result whole, with the numbered row
  have ho : View.write (Elt F) oW.view (m (oLoc d)) (body.sl.dma0_1 m d h fs hk) Finset.univ = answer m hm d := by
    unfold body.sl.dma0_1
    exact (View.write_whole_univ _ _ _).trans (read_row m d hm _ hk hr)
  ihave Ho := (Entails.of_eq ((congrArg (fun f => (oW.view.loc (S d (core0 h)) ↦{fullShare} f : sProp 𝕄)) ho).trans
    (pts_o (F := F) d (core0 h) _))) $$ Ho'
  sl_step
  isplitl [Ht' Hi' Ho]
  · isplitl [Ht']; · iapply (Entails.of_eq (pts_t (F := F) d (core0 h) _)); iexact Ht'
    isplitl [Hi']; · iapply (Entails.of_eq (pts_i (F := F) d (core0 h) _)); iexact Hi'
    iexact Ho
  isplitl [Hs' Hbufs Htiles]
  · isplitl [Hs' Hbufs]
    · isplitl [Hs']; · iexists _; iapply (Entails.of_eq (pts_s (F := F) d (core0 h) _)); iexact Hs'
      iexact Hbufs
    iexact Htiles
  isplitl [HA HB Hsems HtileSems]
  · isplitl [HA HB Hsems]
    · isplitl [HA]; · iexact HA
      isplitl [HB]; · iexact HB
      iexact Hsems
    iexact HtileSems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  exact .inl hp

end Cert.Proof.Gather

end
-- ==== Proof.Run.lean ====
/- The whole run of `kernel`, for any float values: from any memory whose row number is in the table, every execution ends with the
   result's array at the numbered row, the arguments unchanged and every semaphore counter at zero. -/
module

public import proofs.«01_k».proof.Proof.Body

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Row

variable {F : FTy → Type} [FloatOps F]

local notation "𝕄" => MT nD τ sig (HIx 1) (Elt F) ℕ Ghost ℕ

variable (m : (ℓ : Loc nD τ sig) → Buf (Elt F) ℓ) (ρ : Dev nD → PrngReg) (hm : Named m)

/-! ## What the scalar subcore runs -/

/-- The body the scalar subcore of SparseCore `c` runs: the kernel, on the SparseCores of the call. -/
theorem defs₀_scalar (c : Fin τ.nSC) :
    defs₀ (F := F) (.scScalar c) 0 ()
      = SparseCore.onCore hcore0 (fun c => cc0_k (coordsS c) tW (Memref.isWhole_whole _) iW (Memref.isWhole_whole _)
          oW (Memref.isWhole_whole _) sW (Memref.isWhole_whole _) cc0_scoped0 cc0_scoped1) ⟨⟩ c := rfl

/-- The launch theorem's obligation for the scalar subcore: the body, which owes nothing of its own. -/
theorem scalarObl : (K (F := F)).ScalarObl (D (F := F)) 𝒱 (P m hm) v₀ 0 := by
  intro d c O W hO _ _
  simp only [show (P m hm).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body m d hm h O W hO

/-! ## The launch -/

/-- The ghost state at launch: the handshake's rounds; nothing of the kernel's own. -/
def u₀ : Ghost := (initOf (K (F := F)).hsCells (K (F := F)).hsToks, 1)

/-- Nothing, once for each of several things, is nothing. -/
theorem nothing {I : Type} (s : Finset I) : (bigSep s fun _ => iprop(emp)) = (iprop(emp) : sProp 𝕄) := bigSep_emp_const s

/-- The launch gives the handshake its part, and the rest of the obligation is empty. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hm).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing]; iempintro
  rw [show (bigSep Finset.univ fun thr : Thread nD τ => bigSep Finset.univ fun q : Fin 1 => (P m hm).x q thr) = bigSep Finset.univ fun _ => iprop(emp) from
    bigSep_congr fun _ _ => bigSep_univ_of_subsingleton (0 : Fin 1), nothing]
  iempintro

/-- The TensorCore's arrays are the table, the row number's array and the result's array. -/
theorem unscopedBufs_eq (d : Dev nD) (W : (b : Ref sig .tc) → Buf (Elt F) ((d.tc : Thread nD τ).loc b)) :
    (unscopedBufs d W : sProp 𝕄)
      = iprop((tLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call takes for its one SparseCore, and what it hands back. -/
theorem st_eq (d : Dev nD) : (bigSep Finset.univ fun c : Fin ((K (F := F)).nCore 0) => (P m hm).st 0 d c)
    = iprop(tPts m d ∗ iPts m d ∗ oPts d (m (oLoc d))) := bigSep_univ_of_subsingleton (0 : Fin 1)
/-- What the call hands back, over its one SparseCore, is the three arrays. -/
theorem dn_eq (d : Dev nD) : (bigSep Finset.univ fun c : Fin ((K (F := F)).nCore 0) => (P m hm).dn 0 d c)
    = iprop(tPts m d ∗ iPts m d ∗ oPts d (answer m hm d)) := bigSep_univ_of_subsingleton (0 : Fin 1)

/-- What the host program holds at its end: the arguments as at launch and the result at the numbered row. -/
abbrev final (d : Dev nD) : sProp 𝕄 := iprop(tPts m d ∗ iPts m d ∗ oPts d (answer m hm d))

/-- The host program is the call, from the three arrays to the three arrays. -/
theorem hmain (κ : GSem nD τ sig → ℕ) (d : Dev nD) :
    iprop((K (F := F)).ctx EH (P m hm) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ final m hm d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ht, Hi, Ho⟩, Hts, -⟩, -⟩
  iapply ((K (F := F)).wp_run (D (F := F)) 𝒱 (EH := EH) (P := P m hm) κ d 0) $$ [Hst Ht Hi Ho Hb Hts]
  isplitr; · iexact Hctx
  isplitl [Hst]; · iexact Hst
  isplitl [Ht Hi Ho]
  · rw [st_eq]
    isplitl [Ht]; · iexact Ht
    isplitl [Hi]; · iexact Hi
    iexact Ho
  iintro ⟨Hst, Hdn⟩
  ihave Hdn' := (Entails.of_eq (dn_eq m hm d)) $$ Hdn
  imodintro
  isplitl [Hst]; · iexact Hst
  isplitl [Hdn']; · iexact Hdn'
  isplitl [Hb] <;> iassumption

/-! ## The end -/

/-- What the end says of device `d`'s memory. -/
def Ends (d : Dev nD) (s : Phys nD τ sig (Elt F)) : Prop :=
  s.mem.mem (tLoc d) = m (tLoc d) ∧ s.mem.mem (iLoc d) = m (iLoc d) ∧ s.mem.mem (oLoc d) = answer m hm d

/-- An array held whole at `f` holds `f` in the machine's memory. -/
theorem mem_of_pts (s : Phys nD τ sig (Elt F)) (ℓ : Loc nD τ sig) (f : Buf (Elt F) ℓ) :
    iprop(SI s ∗ ℓ ↦{fullShare} f) ⊢ (⌜s.mem.mem ℓ = f⌝ : sProp 𝕄) := by
  exact SI_pointsTo_agree.trans (BI.pure_mono fun h => funext fun i => h i (Finset.mem_univ i))

/-- Holding the three arrays at the end says what the final memory has in them. -/
theorem hfin (d : Dev nD) (s : Phys nD τ sig (Elt F)) : iprop(final m hm d ∗ SI s) ⊢ (⌜Ends m hm d s⌝ : sProp 𝕄) := by
  iintro ⟨⟨Ht, Hi, Ho⟩, HSI⟩
  ihave H := (persistent_entails_right (mem_of_pts s (tLoc d) (m (tLoc d)))) $$ [HSI Ht]
  · isplitl [HSI] <;> iassumption
  icases H with ⟨%ht, HSI, -⟩
  ihave H := (persistent_entails_right (mem_of_pts s (iLoc d) (m (iLoc d)))) $$ [HSI Hi]
  · isplitl [HSI] <;> iassumption
  icases H with ⟨%hi, HSI, -⟩
  ihave H := (mem_of_pts s (oLoc d) (answer m hm d)) $$ [HSI Ho]
  · isplitl [HSI] <;> iassumption
  icases H with %ho
  ipureintro; exact ⟨ht, hi, ho⟩

/-- The final states: on every device the result is the numbered row and the arguments are as at launch; every counter is zero. -/
def Final : PUnit × MemSt nD τ sig (Elt F) → Prop := fun r =>
  (∀ d : Dev nD, r.2.mem (tLoc d) = m (tLoc d) ∧ r.2.mem (iLoc d) = m (iLoc d) ∧ r.2.mem (oLoc d) = answer m hm d)
    ∧ r.2.sem = fun _ => 0

/-- The run. -/
theorem run [∀ e, Nonempty (Elt F e)] :
    θ_run (Cert.KernelIdeal.defs (F := F)) (Cert.KernelIdeal.threads (F := F)) ⟨m, fun _ => 0, ρ⟩ (Final m hm) :=
  SparseCore.Cfg.θ_run_sc_quiescent (K := K (F := F)) (D := D (F := F)) (𝒱 := 𝒱) (EH := EH) (P := P m hm) (A := ∅) facts v₀
    (fun q _ => match q with | 0 => scalarObl m hm)
    (fun q hq => match q with | 0 => nomatch hq)
    (fun q hq => match q with | 0 => nomatch hq)
    m ρ main (fun _ => iprop(emp)) (final m hm) (u₀ (F := F)) (sep_elim_left.trans (hu₀ m hm)) (hmain m ρ hm) (Ends m hm)
    (hfin m hm) (Final m hm) (fun _ h hz => ⟨h, hz⟩)

end Cert.Proof.Gather

end
-- ==== Proof.RefValue.lean ====
/- What the reference computes: the slice of the table that starts at the numbered row is that row. -/
module

public import proofs.«01_k».proof.Proof.Row
public import proofs.«01_k».proof.Proof.Gen.Reference.Run
public import proofs.«01_k».proof.Proof.Gen.ReferenceIdeal.Run
public import Idealize.ShloMosaic.Lib.DynamicIndex
public import Idealize.ShloMosaic.Lib.Quiescent

@[expose] public section

noncomputable section

namespace Cert.Proof.RefValue

open Idealize.ShloMosaic Idealize.SL.Sem Cert.Proof.Row Cert.Reference Cert.Reference.Gen

variable {F : FTy → Type} [FloatOps F]

/-- A word below 100000 is the same number read as signed and as unsigned. -/
theorem toInt_eq (w : BitVec 32) (h : w.toNat < 100000) : w.toInt = (w.toNat : Int) := by
  rw [BitVec.toInt_eq_toNat_cond]; split <;> omega

/-- The number the reference starts its slice at: the row number, with 100000 added were it negative. -/
abbrev start (i : IVec S1x1 32) : IVec S_ 32 :=
  select (cmpi .slt (shapeCast _ i Facts₀.shapeCasts_S1x1_S_) (constantI S_ 32 0#32))
    (addi (shapeCast _ i Facts₀.shapeCasts_S1x1_S_) (constantI S_ 32 100000#32)) (shapeCast _ i Facts₀.shapeCasts_S1x1_S_)

/-- The row number reshaped to a scalar is the row number. -/
theorem scalar_eq (i : IVec S1x1 32) (j : S_.Idx) : (shapeCast S_ i Facts₀.shapeCasts_S1x1_S_) j = i only :=
  congrArg i (eq_only _)

/-- A row number in the table is not negative, so the slice starts at it. -/
theorem start_eq (i : IVec S1x1 32) (h : (i only).toNat < 100000) (j : S_.Idx) : start i j = i only := by
  refine (select_slt_zero_of_nonneg _ _ _ j ?_).trans (scalar_eq i j)
  rw [scalar_eq, toInt_eq _ h]; omega

/-- The slice of one row that starts at the row number and at column zero is the numbered row. -/
theorem slice_eq (x : FVec F S100000x128 .f32) (i : IVec S1x1 32) (h : (i only).toNat < 100000) :
    Host.dynamicSlice S1x128 x (fun k => (((![start i, constantI S_ 32 0#32] : Fin 2 → (⟨S_, .i32⟩ : BufTy).Contents (Elt F))) k
      (Shape.Idx.first Facts₀.h_S_)).toInt) Facts₀.sliceFits_S100000x128_S1x128 = row x ⟨(i only).toNat, h⟩ := by
  have inb : S100000x128.Slices ![(i only).toNat, 0] S1x128 := ⟨rfl, fun a =>
    match a with
    | 0 => by show (i only).toNat + 1 ≤ 100000; omega
    | 1 => by show 0 + 128 ≤ 128; omega⟩
  refine (Host.dynamicSlice_eq_extractStridedSlice S1x128 x _ ![(i only).toNat, 0] _ inb fun a => ?_).trans ?_
  · match a with
    | 0 => exact (congrArg BitVec.toInt (start_eq i h _)).trans (toInt_eq _ h)
    | 1 => rfl
  · refine row_of_places x ⟨(i only).toNat, h⟩ _ (fun p => ?_) (fun p => ?_)
    · show (i only).toNat + (p 0).val = (i only).toNat
      rw [row_zero p]; rfl
    · exact Nat.zero_add _

/-- The reference's run: from any memory whose row number is in the table its result ends at the numbered row, the arguments
    unchanged. -/
theorem run (m : (ℓ : Loc nD τ sig) → Buf (Elt F) ℓ) (ρ : Dev nD → PrngReg)
    (h : ∀ c : Dev nD, ((m ((c.tc : Thread nD τ).loc main_arg1)) only).toNat < 100000) :
    θ_run defs (onTc (τ := τ) (main (F := F))) ⟨m, fun _ => 0, ρ⟩ fun r => ∀ c : Dev nD,
      r.2.mem ((c.tc : Thread nD τ).loc main_v4) = row (m ((c.tc : Thread nD τ).loc main_arg0)) ⟨_, h c⟩
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ e c => ⟨(e c).1.trans (slice_eq _ _ (h c)), (e c).2⟩) (Cert.Reference.Value.run m ρ)

/-- The same of the reference read at the ideal values: it is the same program. -/
theorem run_ideal (m : (ℓ : Loc Cert.ReferenceIdeal.nD Cert.ReferenceIdeal.τ Cert.ReferenceIdeal.sig) → Buf (Elt F) ℓ)
    (ρ : Dev Cert.ReferenceIdeal.nD → PrngReg)
    (h : ∀ c : Dev Cert.ReferenceIdeal.nD,
      ((m ((c.tc : Thread Cert.ReferenceIdeal.nD Cert.ReferenceIdeal.τ).loc Cert.ReferenceIdeal.main_arg1)) only).toNat < 100000) :
    θ_run Cert.ReferenceIdeal.defs (onTc (τ := Cert.ReferenceIdeal.τ) (Cert.ReferenceIdeal.main (F := F))) ⟨m, fun _ => 0, ρ⟩
      fun r => ∀ c : Dev Cert.ReferenceIdeal.nD,
        r.2.mem ((c.tc : Thread Cert.ReferenceIdeal.nD Cert.ReferenceIdeal.τ).loc Cert.ReferenceIdeal.main_v4)
          = row (m ((c.tc : Thread Cert.ReferenceIdeal.nD Cert.ReferenceIdeal.τ).loc Cert.ReferenceIdeal.main_arg0)) ⟨_, h c⟩
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1) :=
  (θ_run Cert.ReferenceIdeal.defs _ _).mono (fun _ e c => ⟨(e c).1.trans (slice_eq _ _ (h c)), (e c).2⟩)
    (Cert.ReferenceIdeal.Value.run m ρ)

/-- The reference leaves the arguments as they were and every semaphore counter at zero: it has no semaphore. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r e => ⟨fun c => (e c).2, sem_eq_zero_of_no_sems (by decide) r.2⟩) (Cert.Reference.Value.run m ρ)

/-- The same of the reference read at the ideal values. -/
theorem frame_ideal (m : (ℓ : Loc Cert.ReferenceIdeal.nD Cert.ReferenceIdeal.τ Cert.ReferenceIdeal.sig) → Buf (Elt F) ℓ)
    (ρ : Dev Cert.ReferenceIdeal.nD → PrngReg) :
    θ_run Cert.ReferenceIdeal.defs (onTc (τ := Cert.ReferenceIdeal.τ) (Cert.ReferenceIdeal.main (F := F))) ⟨m, fun _ => 0, ρ⟩
      fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)) ∧ r.2.sem = fun _ => 0 :=
  (θ_run Cert.ReferenceIdeal.defs _ _).mono (fun r e => ⟨fun c => (e c).2, sem_eq_zero_of_no_sems (by decide) r.2⟩)
    (Cert.ReferenceIdeal.Value.run m ρ)

end Cert.Proof.RefValue

end
-- ==== Proof.BlockWord.lean ====
/- The arithmetic `block_kernel` does on the row number: the block that holds row `n` of the table is block `n / 8`, and within it
   the row is number `n % 8`. The program computes both with signed operations and corrects them for negative numbers; a row number
   in the table is not negative, so the corrections change nothing. -/
module

public import proofs.«01_k».proof.Proof.Gen.BlockKernelIdeal
public import Idealize.ShloMosaic.Lib.Routing.Words

@[expose] public section

namespace Cert.Proof.Block

open Idealize.ShloMosaic Cert.BlockKernelIdeal Cert.BlockKernelIdeal.Gen

variable {F : FTy → Type} [FloatOps F]

/-- A number below 100000, as a word, is not negative. -/
theorem slt_zero (n : Nat) (h : n < 100000) : Scalar.cmpi .slt (BitVec.ofNat 32 n) 0#32 = 0#1 := by
  have : (BitVec.ofNat 32 n).slt 0#32 = false := by
    simp only [BitVec.slt, BitVec.toInt, BitVec.toNat_ofNat, decide_eq_false_iff_not]; omega
  exact congrArg BitVec.ofBool this

/-- A number from 1 to 99999, as a word, is positive. -/
theorem sgt_zero (n : Nat) (h : n < 100000) (h0 : 0 < n) : Scalar.cmpi .sgt (BitVec.ofNat 32 n) 0#32 = 1#1 := by
  have : (0#32).slt (BitVec.ofNat 32 n) = true := by
    simp only [BitVec.slt, BitVec.toInt, BitVec.toNat_ofNat, decide_eq_true_eq]; omega
  exact congrArg BitVec.ofBool this

/-- Division by 8. -/
theorem div_eight (n : Nat) (h : n < 100000) : Scalar.divsi (BitVec.ofNat 32 n) 8#32 = BitVec.ofNat 32 (n / 8) :=
  Routing.divsi_word .scalar (by omega) (by omega) (by omega)

/-- Remainder by 8. -/
theorem rem_eight (n : Nat) (h : n < 100000) : Scalar.remsi (BitVec.ofNat 32 n) 8#32 = BitVec.ofNat 32 (n % 8) :=
  Routing.remsi_word .scalar (by omega) (by omega) (by omega)

/-- A number below 100000 survives the passage through a word. -/
theorem toNat_word (n : Nat) (h : n < 100000) : (BitVec.ofNat 32 n).toNat = n := by
  rw [BitVec.toNat_ofNat]; exact Nat.mod_eq_of_lt (by omega)

/-- The row the body reads within its block: the row number's remainder by 8. -/
theorem off_eq (n : Nat) (h : n < 100000) : k0_off1 (BitVec.ofNat 32 n) = ![n % 8, 0] := by
  have e : Scalar.remsi (BitVec.ofNat 32 n) (Scalar.select (Scalar.cmpi .eq 8#32 0#32) 1#32 8#32) = BitVec.ofNat 32 (n % 8) :=
    rem_eight n h
  have s : Scalar.cmpi .slt (BitVec.ofNat 32 (n % 8)) 0#32 = 0#1 := slt_zero _ (by omega)
  have z : ∀ b : BitVec 1, Scalar.andi (Scalar.xori 0#1 (Scalar.cmpi .slt (Scalar.select (Scalar.cmpi .eq 8#32 0#32) 1#32 8#32) 0#32)) b = 0#1 := by
    decide
  unfold k0_off1
  simp only [e, s, z]
  exact congrArg (fun a => ![a, 0]) (toNat_word _ (by omega))

/-- The block the pipeline fetches: the row number's quotient by 8. -/
theorem block_eq (pf : pre0.Contents (Elt F)) (i : grid0.Coords) (n : Nat) (h : n < 100000)
    (hn : pf.at 0 (Rect.unit (s := S1) ![0] S1.size inb_S1_S1_0) numel1_S1 = BitVec.ofNat 32 n) :
    cc0_transform_0 inb_S1_S1_0 numel1_S1 pf i = ![n / 8, 0] := by
  unfold cc0_transform_0
  simp only [hn, div_eight n h, rem_eight n h, slt_zero n h]
  rcases Nat.eq_zero_or_pos n with rfl | h0
  · rfl
  · simp only [sgt_zero n h h0]
    have z : ∀ b : BitVec 1, Scalar.andi (Scalar.cmpi .ne (Scalar.subi (Scalar.extui 1#1) (Scalar.extui 0#1))
        (Scalar.subi (Scalar.extui (Scalar.cmpi .sgt 8#32 0#32)) (Scalar.extui (Scalar.cmpi .slt 8#32 0#32)))) b = 0#1 := by decide
    simp only [z]
    exact congrArg (fun a => ![a, 0]) (toNat_word _ (by omega))

end Cert.Proof.Block

end
-- ==== Proof.BlockHyps.lean ====
/- The side conditions of `block_kernel`'s run, from a row number in the table: the fetched block lies in the table, and the row read
   lies in the block. -/
module

public import proofs.«01_k».proof.Proof.Row
public import proofs.«01_k».proof.Proof.BlockWord
public import proofs.«01_k».proof.Proof.Gen.BlockKernelIdeal.Frame

@[expose] public section

noncomputable section

namespace Cert.Proof.Block

open Idealize.ShloMosaic Idealize.ShloMosaic.TcCoe Idealize.SL.Sem Cert.BlockKernelIdeal Cert.BlockKernelIdeal.Gen Cert.Proof.Row

variable {F : FTy → Type} [FloatOps F]

variable (m : (ℓ : Loc nD τ sig) → Buf (Elt F) ℓ)

/-- Every device's row number is in the table. -/
abbrev Named : Prop := ∀ c : Dev nD, ((m ((c.tc : Thread nD τ).loc main_arg1)) only).toNat < 100000

/-- The row number the launch memory holds (the program runs on one device). -/
abbrev n : Nat := ((m (((0 : Dev nD).tc : Thread nD τ).loc main_arg1)) only).toNat

/-- The prefetched table is the row number's array, reshaped: each of its words is the row number. -/
theorem tbl_eq (y : S1.Idx) : tbl m 0 y = BitVec.ofNat 32 (n m) := by
  have e : tbl m 0 = shapeCast S1 (m (((0 : Dev nD).tc : Thread nD τ).loc main_arg1)) shapeCasts_S1x1_S1 := by
    show StableHlo.after hostOps0 _ _ = _
    after_results
    rfl
  rw [e]
  refine (congrArg (m (((0 : Dev nD).tc : Thread nD τ).loc main_arg1)) (eq_only _)).trans ?_
  exact (BitVec.eq_of_toNat_eq (by rw [BitVec.toNat_ofNat]; exact Nat.mod_eq_of_lt (BitVec.isLt _))).symm

variable {m}

/-- The index map sends every grid point to the block of the row number. -/
theorem map_eq (h : Named m) (i : grid0.Coords) : cc0_transform_0 inb_S1_S1_0 numel1_S1 (tbl m) i = ![n m / 8, 0] :=
  block_eq (tbl m) i (n m) (h 0) (tbl_eq m _)

/-- The fetched block lies in the table. -/
theorem ok_of_named (h : Named m) : Ok m := fun i => by
  refine ⟨fun a => ?_, .inl rfl⟩
  rw [map_eq h i]
  have : n m < 100000 := h 0
  match a with
  | 0 => show (n m / 8 + 1) * 8 ≤ 100000; omega
  | 1 => show (0 + 1) * 128 ≤ 128; omega

/-- The word the body reads is the row number. -/
theorem word_eq (y) : tbM0_0.view.readAt (Elt F) (Rect.unit (s := S1) ![0] S1.size inb_S1_S1_0).toLoadRect (tbl m 0) y
    = BitVec.ofNat 32 (n m) := tbl_eq m _

/-- The row the body reads lies in the block. -/
theorem hyps_of_named (h : Named m) (hO : Ok m) : Hyps m hO := Hyps.of fun c t => by
  show k0_chk1 _
  rw [word_eq]
  intro a
  rw [off_eq _ (h 0)]
  match a with
  | 0 => show n m % 8 + 1 ≤ 8; omega
  | 1 => show 0 + 128 ≤ 128; omega

end Cert.Proof.Block

end
-- ==== Proof.BlockValue.lean ====
/- What `block_kernel` leaves in its result: the numbered row of the table. The one grid point fetches block `n / 8` of eight rows, and
   the body copies its row `n % 8`; that is row `8 * (n / 8) + n % 8 = n`. -/
module

public import proofs.«01_k».proof.Proof.BlockHyps
public import Idealize.ShloMosaic.Lib.Pipeline.ValueKit
public import Idealize.ShloMosaic.Lib.LaneScatter.Tiles

@[expose] public section

noncomputable section

namespace Cert.Proof.Block

open Idealize.ShloMosaic Idealize.ShloMosaic.TcCoe Idealize.SL.Sem Cert.BlockKernelIdeal Cert.BlockKernelIdeal.Gen Cert.Proof.Row

variable {F : FTy → Type} [FloatOps F]

variable {m : (ℓ : Loc nD τ sig) → Buf (Elt F) ℓ}

/-- The place of a block in row `k`, column `j`. -/
def spot (k : Fin 8) (j : Fin 128) : S8x128.Idx := fun a => match a with | 0 => k | 1 => j

/-- The row of the block that row `n` of the table is. -/
abbrev within (m : (ℓ : Loc nD τ sig) → Buf (Elt F) ℓ) : Fin 8 := ⟨n m % 8, Nat.mod_lt _ (by decide)⟩

/-- The body's result block is the row it reads of the fetched block: row `n % 8`. -/
theorem out_eq (h : Named m) (c : Dev nD) (i : grid0.Coords) (arg2 : Memref sig .tc .vmem S8x128 .f32) (harg2 : arg2.IsWhole)
    (arg3 : Memref sig .tc .vmem S1x128 .f32) (harg3 : arg3.IsWhole) (x0 : Vec F S8x128 .f32) (k0_hw1) (y : S1x128.Idx) :
    out0_A_1 c i arg2 harg2 arg3 harg3 x0 (tbl m 0) k0_hw1 y
      = x0 (spot (within m) (y 1)) := by
  unfold out0_A_1 kernelRun0_A
  refine (congrFun (LaneScatter.read_whole_store VO0_1 _ (by decide) _ _) y).trans ?_
  rw [View.readAt_apply, harg2.read_unread]
  refine congrArg x0 (funext fun a => Fin.ext ?_)
  have e : k0_off1 (kernelRun0_A.sl.r c (tbl m 0)) = ![n m % 8, 0] := (congrArg k0_off1 (word_eq _)).trans (off_eq _ (h 0))
  have v : ((Rect.unit (s := S8x128) (k0_off1 (kernelRun0_A.sl.r c (tbl m 0))) S1x128.size k0_hw1).emb y a : Nat)
      = k0_off1 (kernelRun0_A.sl.r c (tbl m 0)) a + y a := ValueKit.rect_emb_unit_val ..
  refine v.trans ?_
  rw [e]
  match a with
  | 0 => show n m % 8 + (y 0).val = n m % 8; rw [row_zero y]; rfl
  | 1 => exact Nat.zero_add _

variable (m) in
/-- The one grid point. -/
abbrev t₀ (hO : Ok m) : Fin (cfgM m hO).N := ⟨0, by show 0 < grid0.N; decide⟩

/-- Every grid point is the one. -/
theorem eq_t₀ (hO : Ok m) (t : Fin (cfgM m hO).N) : t = t₀ m hO := Fin.ext (by
  have : t.val < grid0.N := t.isLt
  have e : grid0.N = 1 := by decide
  show t.val = 0; omega)

/-- The result's one block is its whole array, written back at the one grid point. -/
theorem whole (hO : Ok m) : ((cfgM m hO).win 1).WholeAt (t₀ m hO) := by
  refine ⟨?_, fun t _ => eq_t₀ hO t, fun a => ?_⟩
  · rfl
  · revert a
    show ∀ a : Fin 2, _
    intro a
    match a with
    | 0 => exact ⟨rfl, rfl⟩
    | 1 => exact ⟨rfl, rfl⟩

/-- A place of the fetched block is the place of the table eight rows per block further down. -/
theorem fetched_eq (h : Named m) (hO : Ok m) (t : Fin (cfgM m hO).N) (c : Dev nD) (j : Fin 128) :
    iblk m hO c 0 t (spot (within m) j) = m ((c.tc : Thread nD τ).loc main_arg0) (place ⟨n m, h 0⟩ j) := by
  have r : ∀ a : Fin 2, ((((cfgM m hO).win 0).rect t).emb (spot (within m) j) a : Nat)
      = ((cfgM m hO).win 0).index t a * S8x128.size a + spot (within m) j a := fun a =>
    Pipeline.Window.rect_emb_val ((cfgM m hO).win 0) t (spot (within m) j) a
  have e : ((cfgM m hO).win 0).index t = ![n m / 8, 0] :=
    map_eq h (grid0.coords t)
  rw [e] at r
  show V m c main_arg0 ((((cfgM m hO).win 0).rect t).emb (spot (within m) j)) = _
  rw [V_main_arg0]
  refine congrArg (m ((c.tc : Thread nD τ).loc main_arg0)) (place_eq _ _ _ ((r 0).trans ?_) ((r 1).trans ?_))
  · show n m / 8 * 8 + n m % 8 = n m; omega
  · show 0 * 128 + j.val = j.val; omega

/-- After the run the result's array is the numbered row of the table. -/
theorem final (h : Named m) (hO : Ok m) (hH : Hyps m hO) (c : Dev nD) :
    (dats m hO hH 0 c).arrAt 1 (cfgM m hO).N = row (m ((c.tc : Thread nD τ).loc main_arg0)) ⟨n m, h 0⟩ := by
  refine (dats m hO hH 0 c).arrAt_eq_of_after_last 1 (t₀ m hO) (whole hO) _ fun j => ?_
  rw [after0_1]
  unfold outsAt0
  refine (out_eq h c _ _ _ _ _ _ _ _).trans ((fetched_eq h hO _ c _).trans ?_)
  rfl

end Cert.Proof.Block

end
-- ==== Proof.BlockSame.lean ====
/- `block_kernel` and `block_kernel` read at the ideal values are one program: at any float values their body tables are equal. -/
module

public import proofs.«01_k».proof.Proof.Gen.BlockKernel
public import proofs.«01_k».proof.Proof.Gen.BlockKernelIdeal

@[expose] public section

noncomputable section

namespace Cert.Proof.Block

open Idealize.ShloMosaic Idealize.SL.Sem

variable {F : FTy → Type} [FloatOps F]

/-- The kernels' body tables are equal: the one label runs the same function. -/
theorem bodies_eq : Cert.BlockKernel.defs₀ (F := F) = Cert.BlockKernelIdeal.defs₀ (F := F) :=
  congrArg Defs.onTc (funext fun l => funext fun a => match l, a with
    | 0, _ => rfl
    | ⟨_ + 1, h⟩, _ => absurd h (Nat.not_lt.2 (Nat.le_add_left _ _)))

/-- So the programs' body tables are equal. -/
theorem defs_eq : Cert.BlockKernel.defs (F := F) = Cert.BlockKernelIdeal.defs (F := F) :=
  congrArg (Pipeline.defs Cert.BlockKernel.pcfgs) bodies_eq

end Cert.Proof.Block

end
-- ==== Proof.BlockRun.lean ====
/- The whole run of `block_kernel`, for any float values: from any memory whose row number is in the table, every execution ends with the
   result's array at the numbered row, the arguments unchanged and every semaphore counter at zero. -/
module

public import proofs.«01_k».proof.Proof.BlockValue
public import proofs.«01_k».proof.Proof.BlockSame
public import Idealize.ShloMosaic.Lib.Quiescent

@[expose] public section

noncomputable section

namespace Cert.Proof.Block

open Idealize.ShloMosaic Idealize.ShloMosaic.TcCoe Idealize.SL.Sem Cert.BlockKernelIdeal Cert.BlockKernelIdeal.Gen Cert.Proof.Row

variable {F : FTy → Type} [FloatOps F]

variable (m : (ℓ : Loc nD τ sig) → Buf (Elt F) ℓ) (ρ : Dev nD → PrngReg)

/-- Every execution of `block_kernel` ends with its result at the numbered row, its arguments unchanged and the counters at zero. -/
theorem run (h : Named m) :
    θ_run defs (onTc (τ := τ) (main (F := F))) ⟨m, fun _ => 0, ρ⟩ fun r => (∀ c : Dev nD,
      r.2.mem ((c.tc : Thread nD τ).loc main_v1) = row (m ((c.tc : Thread nD τ).loc main_arg0)) ⟨_, h c⟩
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 := by
  have hO := ok_of_named h
  have hH := hyps_of_named h hO
  refine (θ_run defs _ _).mono (fun r e => ⟨fun c => ⟨?_, e.2.1 c⟩, e.2.2⟩)
    (θ_run_and (run_main m ρ hO hH) (frame m ρ hO hH))
  obtain rfl : c = 0 := Subsingleton.elim _ _
  exact ((e.1 0).1 1).trans (final h hO hH 0)

/-- The same of `block_kernel` as printed for bits: the two are one program. -/
theorem run_printed (m : (ℓ : Loc Cert.BlockKernel.nD Cert.BlockKernel.τ Cert.BlockKernel.sig) → Buf (Elt F) ℓ)
    (ρ : Dev Cert.BlockKernel.nD → PrngReg)
    (h : ∀ c : Dev Cert.BlockKernel.nD,
      ((m ((c.tc : Thread Cert.BlockKernel.nD Cert.BlockKernel.τ).loc Cert.BlockKernel.main_arg1)) only).toNat < 100000) :
    θ_run Cert.BlockKernel.defs (onTc (τ := Cert.BlockKernel.τ) (Cert.BlockKernel.main (F := F))) ⟨m, fun _ => 0, ρ⟩
      fun r => (∀ c : Dev Cert.BlockKernel.nD,
        r.2.mem ((c.tc : Thread Cert.BlockKernel.nD Cert.BlockKernel.τ).loc Cert.BlockKernel.main_v1)
          = row (m ((c.tc : Thread Cert.BlockKernel.nD Cert.BlockKernel.τ).loc Cert.BlockKernel.main_arg0)) ⟨_, h c⟩
        ∧ r.2.mem ((c.tc : Thread Cert.BlockKernel.nD Cert.BlockKernel.τ).loc Cert.BlockKernel.main_arg0)
          = m ((c.tc : Thread Cert.BlockKernel.nD Cert.BlockKernel.τ).loc Cert.BlockKernel.main_arg0)
        ∧ r.2.mem ((c.tc : Thread Cert.BlockKernel.nD Cert.BlockKernel.τ).loc Cert.BlockKernel.main_arg1)
          = m ((c.tc : Thread Cert.BlockKernel.nD Cert.BlockKernel.τ).loc Cert.BlockKernel.main_arg1)) ∧ r.2.sem = fun _ => 0 := by
  rw [defs_eq]
  exact run (F := F) m ρ h

end Cert.Proof.Block

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.BlockKernel
public import proofs.«01_k».proof.Proof.Gen.BlockKernel.Skeleton
public import proofs.«01_k».proof.Proof.Gen.BlockKernel.Launch
public import proofs.«01_k».proof.Proof.Gen.BlockKernel.Points
public import proofs.«01_k».proof.Proof.Gen.BlockKernel.Frame
public import proofs.«01_k».proof.Proof.Gen.BlockKernelIdeal
public import proofs.«01_k».proof.Proof.Gen.BlockKernelIdeal.Skeleton
public import proofs.«01_k».proof.Proof.Gen.BlockKernelIdeal.Launch
public import proofs.«01_k».proof.Proof.Gen.BlockKernelIdeal.Points
public import proofs.«01_k».proof.Proof.Gen.BlockKernelIdeal.Frame
public import proofs.«01_k».proof.Proof.Gen.Reference
public import proofs.«01_k».proof.Proof.Gen.ReferenceIdeal
public import proofs.«01_k».proof.Proof.Gen.ReferenceIdeal.Run
public import proofs.«01_k».proof.Proof.Gen.Reference.Run
public import proofs.«01_k».proof.Proof.Gen.Pre_names_a_row
public import proofs.«01_k».proof.Proof.Word
public import proofs.«01_k».proof.Proof.Run
public import proofs.«01_k».proof.Proof.RefValue
public import proofs.«01_k».proof.Proof.BlockRun
public import Idealize.ShloMosaic.Adequacy
public import Idealize.ShloMosaic.Init

@[expose] public section

noncomputable section

namespace Cert.Proof

open Idealize.ShloMosaic Idealize.SL.Sem

/-! ## The frames -/

/-- `kernel` leaves its arguments and every counter as they were. -/
theorem frame_kernel : Cert.quiescent_Kernel := fun m ρ h =>
  (θ_run Cert.KernelIdeal.defs _ _).mono (fun _ e => ⟨fun c => ⟨(e.1 c).1, (e.1 c).2.1⟩, e.2⟩)
    (Gather.run (F := Bits) m ρ fun c => Word.lt_of_pre _ _ (h c))

/-- `kernel` read at the ideal values leaves its arguments and every counter as they were. -/
theorem frame_kernel_ideal : Cert.quiescent_KernelIdeal := fun m ρ h =>
  (θ_run Cert.KernelIdeal.defs _ _).mono (fun _ e => ⟨fun c => ⟨(e.1 c).1, (e.1 c).2.1⟩, e.2⟩)
    (Gather.run (F := Ideal) m ρ fun c => Word.lt_of_pre _ _ (h c))

/-- `block_kernel` leaves its arguments and every counter as they were. -/
theorem frame_block : Cert.quiescent_BlockKernel := fun m ρ h =>
  (θ_run Cert.BlockKernel.defs _ _).mono (fun _ e => ⟨fun c => (e.1 c).2, e.2⟩)
    (Block.run_printed (F := Bits) m ρ fun c => Word.lt_of_pre _ _ (h c))

/-- `block_kernel` read at the ideal values leaves its arguments and every counter as they were. -/
theorem frame_block_ideal : Cert.quiescent_BlockKernelIdeal := fun m ρ h =>
  (θ_run Cert.BlockKernelIdeal.defs _ _).mono (fun _ e => ⟨fun c => (e.1 c).2, e.2⟩)
    (Block.run (F := Ideal) m ρ fun c => Word.lt_of_pre _ _ (h c))

/-! ## The values -/

/-- At the ideal values, `kernel` and the reference end with the same result: the numbered row of the table. -/
theorem kernel_algebraic : Cert.algebraic_KernelIdeal_ReferenceIdeal := fun m ρ m' ρ' h agree =>
  have hm : Gather.Named m := fun c => Word.lt_of_pre _ _ (h c)
  ⟨fun c => Gather.answer m hm c,
    (θ_run Cert.KernelIdeal.defs _ _).mono (fun _ e c => ⟨(e.1 c).2.2, (e.1 c).1, (e.1 c).2.1⟩) (Gather.run (F := Ideal) m ρ hm),
    (θ_run Cert.ReferenceIdeal.defs _ _).mono (fun _ e c => ⟨(e c).1.trans (Row.row_congr (agree c).1 (agree c).2 _ _), (e c).2⟩)
      (RefValue.run_ideal (F := Ideal) m' ρ' fun c => (congrFun (agree c).2 Row.only) ▸ hm c)⟩

/-- At bits, `kernel` and the reference end with the same result, bit for bit. -/
theorem kernel_bitexact : Cert.bitexact_Kernel_Reference := fun m ρ m' ρ' h agree =>
  have hm : Gather.Named (F := Bits) m := fun c => Word.lt_of_pre _ _ (h c)
  ⟨fun c => Gather.answer (F := Bits) m hm c,
    (θ_run Cert.KernelIdeal.defs _ _).mono (fun _ e c => ⟨(e.1 c).2.2, (e.1 c).1, (e.1 c).2.1⟩) (Gather.run (F := Bits) m ρ hm),
    (θ_run Cert.Reference.defs _ _).mono (fun _ e c => ⟨(e c).1.trans (Row.row_congr (agree c).1 (agree c).2 _ _), (e c).2⟩)
      (RefValue.run (F := Bits) m' ρ' fun c => (congrFun (agree c).2 Row.only) ▸ hm c)⟩

/-- At the ideal values, `block_kernel` and the reference end with the same result: the numbered row of the table. -/
theorem block_algebraic : Cert.algebraic_BlockKernelIdeal_ReferenceIdeal := fun m ρ m' ρ' h agree =>
  have hm : Block.Named m := fun c => Word.lt_of_pre _ _ (h c)
  ⟨fun c => Row.row (m ((c.tc : Thread _ _).loc Cert.BlockKernelIdeal.main_arg0)) ⟨_, hm c⟩,
    (θ_run Cert.BlockKernelIdeal.defs _ _).mono (fun _ e => e.1) (Block.run (F := Ideal) m ρ hm),
    (θ_run Cert.ReferenceIdeal.defs _ _).mono (fun _ e c => ⟨(e c).1.trans (Row.row_congr (agree c).1 (agree c).2 _ _), (e c).2⟩)
      (RefValue.run_ideal (F := Ideal) m' ρ' fun c => (congrFun (agree c).2 Row.only) ▸ hm c)⟩

/-- At bits, `block_kernel` and the reference end with the same result, bit for bit. -/
theorem block_bitexact : Cert.bitexact_BlockKernel_Reference := fun m ρ m' ρ' h agree =>
  have hm : ∀ c : Dev Cert.BlockKernel.nD,
      ((m ((c.tc : Thread Cert.BlockKernel.nD Cert.BlockKernel.τ).loc Cert.BlockKernel.main_arg1)) Row.only).toNat < 100000 := fun c => Word.lt_of_pre _ _ (h c)
  ⟨fun c => Row.row (m ((c.tc : Thread _ _).loc Cert.BlockKernel.main_arg0)) ⟨_, hm c⟩,
    (θ_run Cert.BlockKernel.defs _ _).mono (fun _ e => e.1) (Block.run_printed (F := Bits) m ρ hm),
    (θ_run Cert.Reference.defs _ _).mono (fun _ e c => ⟨(e c).1.trans (Row.row_congr (agree c).1 (agree c).2 _ _), (e c).2⟩)
      (RefValue.run (F := Bits) m' ρ' fun c => (congrFun (agree c).2 Row.only) ▸ hm c)⟩

/-- The whole claim. -/
theorem claim : Cert.Claim := ⟨Cert.Kernel.Gen.facts, Cert.KernelIdeal.Gen.facts, Cert.BlockKernel.Gen.facts, Cert.BlockKernelIdeal.Gen.facts, Cert.Reference.Gen.facts, Cert.ReferenceIdeal.Gen.facts, Cert.Pre_names_a_row.Gen.facts,
  frame_kernel, frame_kernel_ideal, frame_block, frame_block_ideal,
  fun m ρ _ => RefValue.frame (F := Bits) m ρ, fun m ρ _ => RefValue.frame (F := Bits) m ρ,
  fun m ρ _ => RefValue.frame_ideal (F := Ideal) m ρ, fun m ρ _ => RefValue.frame_ideal (F := Ideal) m ρ,
  trivial, trivial, kernel_algebraic, block_algebraic, kernel_bitexact, block_bitexact⟩

end Cert.Proof

end
